-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S100000 : Shape := ⟨1, ![100000]⟩
abbrev S4x1 : Shape := ⟨2, ![4, 1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : IVec S100000 32) (main_arg1 : FVec F S4x1 .f32) : IVec S_ 1 :=
  let main_c : IVec S_ 32 := constantI S_ 32 0#32
  let main_v0 : IVec S100000 32 := broadcastInDim S100000 ![] bcast_S_S100000 main_c
  let main_v1 : IVec S100000 1 := cmpi .sge main_arg0 main_v0
  let main_c_0 : IVec S_ 32 := constantI S_ 32 4#32
  let main_v2 : IVec S100000 32 := broadcastInDim S100000 ![] bcast_S_S100000 main_c_0
  let main_v3 : IVec S100000 1 := cmpi .slt main_arg0 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000 : Shape := ⟨1, ![100000]⟩
abbrev S4x1 : Shape := ⟨2, ![4, 1]⟩
abbrev S4 : Shape := ⟨1, ![4]⟩
abbrev S3200 : Shape := ⟨1, ![3200]⟩
abbrev S16 : Shape := ⟨1, ![16]⟩
abbrev S_ : Shape := ⟨0, ![]⟩
abbrev S3128 : Shape := ⟨1, ![3128]⟩
abbrev S3032 : Shape := ⟨1, ![3032]⟩
abbrev S100000x1 : Shape := ⟨2, ![100000, 1]⟩

abbrev nBuf : Table → Nat
  | .hbm => 5
  | .local .scVector .vmem => 3
  | _ => 0

abbrev bufTy : (tb : Table) → Fin (nBuf tb) → BufTy
  | .hbm, ⟨0, _⟩ => ⟨S100000, .i32⟩
  | .hbm, ⟨1, _⟩ => ⟨S4x1, .f32⟩
  | .hbm, ⟨2, _⟩ => ⟨S4, .f32⟩
  | .hbm, ⟨3, _⟩ => ⟨S100000, .f32⟩
  | .hbm, ⟨4, _⟩ => ⟨S100000x1, .f32⟩
  | .local .scVector .vmem, ⟨0, _⟩ => ⟨S3200, .i32⟩
  | .local .scVector .vmem, ⟨1, _⟩ => ⟨S16, .f32⟩
  | .local .scVector .vmem, ⟨2, _⟩ => ⟨S3200, .f32⟩
  | _, _ => ⟨S100000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let v_true : BitVec 1 := 1#1
  let v6 : BitVec 1 := Scalar.xori v5 v_true
  let v7 : BitVec 32 := Scalar.extui v6
  let c0_i32_1 : BitVec 32 := 0#32
  let v8 : BitVec 1 := Scalar.cmpi .ne v7 c0_i32_1
  v8

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  ![v2.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let v9 : BitVec 32 := Scalar.extui v5
  let c0_i32_2 : BitVec 32 := 0#32
  let v10 : BitVec 1 := Scalar.cmpi .ne v9 c0_i32_2
  v10

def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  ![v2.toNat]
@[reducible] def k0_t1_loop : Scf.Loop 32 :=
  let c0_i32_6 : BitVec 32 := 0#32
  let c25_i32 : BitVec 32 := 25#32
  let v13 : BitVec 32 := Scalar.addi c0_i32_6 c25_i32
  let c1_i32 : BitVec 32 := 1#32
  ⟨c0_i32_6, v13, c1_i32⟩
def k0_off3 (k0_t1 : Fin k0_t1_loop.trips) : Fin 1 → Nat :=
  let c0_i32_6 : BitVec 32 := 0#32
  let c1_i32 : BitVec 32 := 1#32
  let arg11 : BitVec 32 := Scf.iv c0_i32_6 c1_i32 k0_t1
  let c8_i32 : BitVec 32 := 8#32
  let v19 : BitVec 32 := Scalar.muli arg11 c8_i32
  let c0_i32_11 : BitVec 32 := 0#32
  let v20 : BitVec 32 := Scalar.addi v19 c0_i32_11
  let c16_i32 : BitVec 32 := 16#32
  let v21 : BitVec 32 := Scalar.muli v20 c16_i32
  let v22 : Index := Scalar.indexCast v21
  ![v22.toNat]

def k0_chk1 (v26 : IVec S16 32) : Prop :=
  (∀ a x, ((![v26] : Fin 1 → IVec S16 32) a x).toNat < S16.size a)
theorem k0_idx1_inb : ∀ (v26 : IVec S16 32) (k0_hw1 : k0_chk1 v26), ∀ a x, ((![v26] : Fin 1 → IVec S16 32) a x).toNat < S16.size a := fun v26 k0_hw1 => k0_hw1
def k0_off4 (k0_t1 : Fin k0_t1_loop.trips) (c0_i32_11 : BitVec 32) : Fin 1 → Nat :=
  let c0_i32_6 : BitVec 32 := 0#32
  let c1_i32 : BitVec 32 := 1#32
  let arg11 : BitVec 32 := Scf.iv c0_i32_6 c1_i32 k0_t1
  let c8_i32 : BitVec 32 := 8#32
  let v19 : BitVec 32 := Scalar.muli arg11 c8_i32
  let v20 : BitVec 32 := Scalar.addi v19 c0_i32_11
  let c16_i32 : BitVec 32 := 16#32
  let v21 : BitVec 32 := Scalar.muli v20 c16_i32
  let v28 : Index := Scalar.indexCast v21
  ![v28.toNat]

def k0_chk2 (v39 : IVec S16 32) : Prop :=
  (∀ a x, ((![v39] : Fin 1 → IVec S16 32) a x).toNat < S16.size a)
theorem k0_idx2_inb : ∀ (v39 : IVec S16 32) (k0_hw2 : k0_chk2 v39), ∀ a x, ((![v39] : Fin 1 → IVec S16 32) a x).toNat < S16.size a := fun v39 k0_hw2 => k0_hw2
def k0_off5 (k0_t1 : Fin k0_t1_loop.trips) (c1_i32_13 : BitVec 32) : Fin 1 → Nat :=
  let c0_i32_6 : BitVec 32 := 0#32
  let c1_i32 : BitVec 32 := 1#32
  let arg11 : BitVec 32 := Scf.iv c0_i32_6 c1_i32 k0_t1
  let c8_i32_12 : BitVec 32 := 8#32
  let v32 : BitVec 32 := Scalar.muli arg11 c8_i32_12
  let v33 : BitVec 32 := Scalar.addi v32 c1_i32_13
  let c16_i32_14 : BitVec 32 := 16#32
  let v34 : BitVec 32 := Scalar.muli v33 c16_i32_14
  let v41 : Index := Scalar.indexCast v34
  ![v41.toNat]

def k0_chk3 (v52 : IVec S16 32) : Prop :=
  (∀ a x, ((![v52] : Fin 1 → IVec S16 32) a x).toNat < S16.size a)
theorem k0_idx3_inb : ∀ (v52 : IVec S16 32) (k0_hw3 : k0_chk3 v52), ∀ a x, ((![v52] : Fin 1 → IVec S16 32) a x).toNat < S16.size a := fun v52 k0_hw3 => k0_hw3
def k0_off6 (k0_t1 : Fin k0_t1_loop.trips) (c2_i32_17 : BitVec 32) : Fin 1 → Nat :=
  let c0_i32_6 : BitVec 32 := 0#32
  let c1_i32 : BitVec 32 := 1#32
  let arg11 : BitVec 32 := Scf.iv c0_i32_6 c1_i32 k0_t1
  let c8_i32_16 : BitVec 32 := 8#32
  let v45 : BitVec 32 := Scalar.muli arg11 c8_i32_16
  let v46 : BitVec 32 := Scalar.addi v45 c2_i32_17
  let c16_i32_18 : BitVec 32 := 16#32
  let v47 : BitVec 32 := Scalar.muli v46 c16_i32_18
  let v54 : Index := Scalar.indexCast v47
  ![v54.toNat]

def k0_chk4 (v65 : IVec S16 32) : Prop :=
  (∀ a x, ((![v65] : Fin 1 → IVec S16 32) a x).toNat < S16.size a)
theorem k0_idx4_inb : ∀ (v65 : IVec S16 32) (k0_hw4 : k0_chk4 v65), ∀ a x, ((![v65] : Fin 1 → IVec S16 32) a x).toNat < S16.size a := fun v65 k0_hw4 => k0_hw4
def k0_off7 (k0_t1 : Fin k0_t1_loop.trips) (c3_i32 : BitVec 32) : Fin 1 → Nat :=
  let c0_i32_6 : BitVec 32 := 0#32
  let c1_i32 : BitVec 32 := 1#32
  let arg11 : BitVec 32 := Scf.iv c0_i32_6 c1_i32 k0_t1
  let c8_i32_20 : BitVec 32 := 8#32
  let v58 : BitVec 32 := Scalar.muli arg11 c8_i32_20
  let v59 : BitVec 32 := Scalar.addi v58 c3_i32
  let c16_i32_21 : BitVec 32 := 16#32
  let v60 : BitVec 32 := Scalar.muli v59 c16_i32_21
  let v67 : Index := Scalar.indexCast v60
  ![v67.toNat]

def k0_chk5 (v78 : IVec S16 32) : Prop :=
  (∀ a x, ((![v78] : Fin 1 → IVec S16 32) a x).toNat < S16.size a)
theorem k0_idx5_inb : ∀ (v78 : IVec S16 32) (k0_hw5 : k0_chk5 v78), ∀ a x, ((![v78] : Fin 1 → IVec S16 32) a x).toNat < S16.size a := fun v78 k0_hw5 => k0_hw5
def k0_off8 (k0_t1 : Fin k0_t1_loop.trips) (c4_i32 : BitVec 32) : Fin 1 → Nat :=
  let c0_i32_6 : BitVec 32 := 0#32
  let c1_i32 : BitVec 32 := 1#32
  let arg11 : BitVec 32 := Scf.iv c0_i32_6 c1_i32 k0_t1
  let c8_i32_23 : BitVec 32 := 8#32
  let v71 : BitVec 32 := Scalar.muli arg11 c8_i32_23
  let v72 : BitVec 32 := Scalar.addi v71 c4_i32
  let c16_i32_24 : BitVec 32 := 16#32
  let v73 : BitVec 32 := Scalar.muli v72 c16_i32_24
  let v80 : Index := Scalar.indexCast v73
  ![v80.toNat]

def k0_chk6 (v91 : IVec S16 32) : Prop :=
  (∀ a x, ((![v91] : Fin 1 → IVec S16 32) a x).toNat < S16.size a)
theorem k0_idx6_inb : ∀ (v91 : IVec S16 32) (k0_hw6 : k0_chk6 v91), ∀ a x, ((![v91] : Fin 1 → IVec S16 32) a x).toNat < S16.size a := fun v91 k0_hw6 => k0_hw6
def k0_off9 (k0_t1 : Fin k0_t1_loop.trips) (c5_i32 : BitVec 32) : Fin 1 → Nat :=
  let c0_i32_6 : BitVec 32 := 0#32
  let c1_i32 : BitVec 32 := 1#32
  let arg11 : BitVec 32 := Scf.iv c0_i32_6 c1_i32 k0_t1
  let c8_i32_26 : BitVec 32 := 8#32
  let v84 : BitVec 32 := Scalar.muli arg11 c8_i32_26
  let v85 : BitVec 32 := Scalar.addi v84 c5_i32
  let c16_i32_27 : BitVec 32 := 16#32
  let v86 : BitVec 32 := Scalar.muli v85 c16_i32_27
  let v93 : Index := Scalar.indexCast v86
  ![v93.toNat]

def k0_chk7 (v104 : IVec S16 32) : Prop :=
  (∀ a x, ((![v104] : Fin 1 → IVec S16 32) a x).toNat < S16.size a)
theorem k0_idx7_inb : ∀ (v104 : IVec S16 32) (k0_hw7 : k0_chk7 v104), ∀ a x, ((![v104] : Fin 1 → IVec S16 32) a x).toNat < S16.size a := fun v104 k0_hw7 => k0_hw7
def k0_off10 (k0_t1 : Fin k0_t1_loop.trips) (c6_i32 : BitVec 32) : Fin 1 → Nat :=
  let c0_i32_6 : BitVec 32 := 0#32
  let c1_i32 : BitVec 32 := 1#32
  let arg11 : BitVec 32 := Scf.iv c0_i32_6 c1_i32 k0_t1
  let c8_i32_29 : BitVec 32 := 8#32
  let v97 : BitVec 32 := Scalar.muli arg11 c8_i32_29
  let v98 : BitVec 32 := Scalar.addi v97 c6_i32
  let c16_i32_30 : BitVec 32 := 16#32
  let v99 : BitVec 32 := Scalar.muli v98 c16_i32_30
  let v106 : Index := Scalar.indexCast v99
  ![v106.toNat]

def k0_chk8 (v117 : IVec S16 32) : Prop :=
  (∀ a x, ((![v117] : Fin 1 → IVec S16 32) a x).toNat < S16.size a)
theorem k0_idx8_inb : ∀ (v117 : IVec S16 32) (k0_hw8 : k0_chk8 v117), ∀ a x, ((![v117] : Fin 1 → IVec S16 32) a x).toNat < S16.size a := fun v117 k0_hw8 => k0_hw8
def k0_off11 (k0_t1 : Fin k0_t1_loop.trips) : Fin 1 → Nat :=
  let c0_i32_6 : BitVec 32 := 0#32
  let c1_i32 : BitVec 32 := 1#32
  let arg11 : BitVec 32 := Scf.iv c0_i32_6 c1_i32 k0_t1
  let c8_i32_32 : BitVec 32 := 8#32
  let v110 : BitVec 32 := Scalar.muli arg11 c8_i32_32
  let c7_i32 : BitVec 32 := 7#32
  let v111 : BitVec 32 := Scalar.addi v110 c7_i32
  let c16_i32_33 : BitVec 32 := 16#32
  let v112 : BitVec 32 := Scalar.muli v111 c16_i32_33
  let v119 : Index := Scalar.indexCast v112
  ![v119.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let true_8 : BitVec 1 := 1#1
  let v14 : BitVec 1 := Scalar.xori v5 true_8
  let v15 : BitVec 32 := Scalar.extui v14
  let c0_i32_9 : BitVec 32 := 0#32
  let v16 : BitVec 1 := Scalar.cmpi .ne v15 c0_i32_9
  v16

def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  ![v2.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v5 : BitVec 1 := Scalar.cmpi .eq v1 c31_i32
  let v17 : BitVec 32 := Scalar.extui v5
  let c0_i32_10 : BitVec 32 := 0#32
  let v18 : BitVec 1 := Scalar.cmpi .ne v17 c0_i32_10
  v18

def k0_off13 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3128_i32 : BitVec 32 := 3128#32
  let v2 : BitVec 32 := Scalar.muli v1 c3128_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000 : Shape := ⟨1, ![100000]⟩
abbrev S4x1 : Shape := ⟨2, ![4, 1]⟩
abbrev S_ : Shape := ⟨0, ![]⟩
abbrev S100000x1 : Shape := ⟨2, ![100000, 1]⟩
abbrev S1 : Shape := ⟨1, ![1]⟩
abbrev S1x1 : Shape := ⟨2, ![1, 1]⟩

abbrev nBuf : Space → Nat
  | .hbm => 25
  | .vmem => 0
  | .smem => 0
  | _ => 0

abbrev bufTy : (tb : Table) → Fin (tcTables nBuf tb) → BufTy
  | .hbm, ⟨0, _⟩ => ⟨S100000, .i32⟩
  | .hbm, ⟨1, _⟩ => ⟨S4x1, .f32⟩
  | .hbm, ⟨2, _⟩ => ⟨S_, .i32⟩
  | .hbm, ⟨3, _⟩ => ⟨S100000, .i32⟩
  | .hbm, ⟨4, _⟩ => ⟨S100000, .i1⟩
  | .hbm, ⟨5, _⟩ => ⟨S_, .i32⟩
  | .hbm, ⟨6, _⟩ => ⟨S100000, .i32⟩
  | .hbm, ⟨7, _⟩ => ⟨S100000, .i32⟩
  | .hbm, ⟨8, _⟩ => ⟨S100000, .i32⟩
  | .hbm, ⟨9, _⟩ => ⟨S100000x1, .i32⟩
  | .hbm, ⟨10, _⟩ => ⟨S1, .i32⟩
  | .hbm, ⟨11, _⟩ => ⟨S_, .i32⟩
  | .hbm, ⟨12, _⟩ => ⟨S100000x1, .i32⟩
  | .hbm, ⟨13, _⟩ => ⟨S100000x1, .i1⟩
  | .hbm, ⟨14, _⟩ => ⟨S1x1, .i32⟩
  | .hbm, ⟨15, _⟩ => ⟨S100000x1, .i32⟩
  | .hbm, ⟨16, _⟩ => ⟨S100000x1, .i1⟩
  | .hbm, ⟨17, _⟩ => ⟨S100000x1, .i1⟩
  | .hbm, ⟨18, _⟩ => ⟨S_, .i1⟩
  | .hbm, ⟨19, _⟩ => ⟨S100000, .i1⟩
  | .hbm, ⟨20, _⟩ => ⟨S100000x1, .f32⟩
  | .hbm, ⟨21, _⟩ => ⟨S100000x1, .i1⟩
  | .hbm, ⟨22, _⟩ => ⟨S_, .f32⟩
  | .hbm, ⟨23, _⟩ => ⟨S100000x1, .f32⟩
  | .hbm, ⟨24, _⟩ => ⟨S100000x1, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The set-up of the lookup kernel's run: the program as the launch theorem for SparseCore programs sees it, the resource algebra,
  the arrays and scratches by name, the stretch of the result that each of the 32 tiles writes, and what one tile is asked to leave there.

  Tile `s` of SparseCore `c` has the number `2 s + c`; it looks up elements `[3128 (2 s + c), 3128 (2 s + c) + 3128)` of the result,
  the last tile (number 31) only the 3032 that are left.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are what the launch theorem asks of them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the counters of the local copies -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The indices, the table as the program is given it, the table in a row, the kernel's result, the program's result. -/
abbrev iLoc (d : Dev nD) : Loc nD τ sig := (SparseCore.T d).loc main_arg0
abbrev gLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

abbrev iV : Memref sig .scVector .hbm S100000 .i32 := Memref.whole main_arg0_scv
abbrev tV : Memref sig .scVector .hbm S4 .f32 := Memref.whole main_v0_scv
abbrev oV : Memref sig .scVector .hbm S100000 .f32 := Memref.whole main_v1_scv
abbrev iS : Memref sig .scVector .vmem S3200 .i32 := Memref.whole cc0_scratch0
abbrev tS : Memref sig .scVector .vmem S16 .f32 := Memref.whole cc0_scratch1
abbrev oS : Memref sig .scVector .vmem S3200 .f32 := Memref.whole cc0_scratch2

/-! ## The tiles and their stretches -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The elements of the result that tile number `w` writes. -/
def stretch (w : ℕ) : Finset S100000.Idx := Finset.univ.filter fun x => 3128 * w ≤ (x 0).val ∧ (x 0).val < 3128 * w + 3128

/-- What tile number `w` is asked to leave in its stretch, `X` being the table: wherever the index names a row of the
    table, that row. -/
def Looked (d : Dev nD) (X : Buf (Elt F) (tLoc d)) (w : ℕ) (f : Buf (Elt F) (oLoc d)) : Prop :=
  ∀ j ∈ stretch w, ∀ l : S4.Idx, (m (iLoc d) j).toNat = (l 0).val → f j = X l

end Cert.Proof.Lookup

end
-- ==== Proof.Trip.lean ====
/-
  One trip of the kernel's loop: eight times, sixteen indices are loaded, cut to their last four bits, looked up in the table scratch
  and stored in the result scratch. Trip `k` fills elements `[128 k, 128 k + 128)`.
-/
module

public import proofs.«01_k».proof.Proof.Setup

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The lane of the table scratch that the kernel reads for the index `w`: its last four bits. -/
def lane (w : BitVec 32) : S16.Idx := fun a => ⟨w.toNat % 16, by obtain rfl : a = 0 := Subsingleton.elim _ _; exact Nat.mod_lt _ (by decide)⟩

variable [FloatOps F] (d : Dev nD) (L : grid0.Coords)

omit [FloatOps F] in
/-- The last four bits of a word name one of sixteen lanes. -/
theorem chk_of_last (v : IVec S16 32) : ∀ a x, ((![andi v (broadcast S16 15#32)] : Fin 1 → IVec S16 32) a x).toNat < S16.size a := by
  intro a x
  obtain rfl : a = 0 := Subsingleton.elim _ _
  show (v x &&& 15#32).toNat < 16
  rw [BitVec.toNat_and]
  exact Nat.lt_of_le_of_lt Nat.and_le_right (by decide)

/-- The first `n` elements of the result scratch hold what the index scratch's elements name in the table scratch. -/
def Filled (fi : Buf (Elt F) ((VT d L).loc cc0_scratch0)) (ft : Buf (Elt F) ((VT d L).loc cc0_scratch1)) (n : ℕ)
    (fo : Buf (Elt F) ((VT d L).loc cc0_scratch2)) : Prop :=
  ∀ p : S3200.Idx, (p 0).val < n → fo p = ft (lane (fi p))

/-- Casting sixteen lanes to sixteen lanes changes nothing. -/
theorem cast16 {α : Type} (v : S16.Idx → α) : shapeCast S16 v shapeCasts_S16_S16 = v :=
  funext fun i => congrArg v (Shape.reshapeEquiv_self _ i)

omit [FloatOps F] in
/-- One gather of sixteen: the indices loaded at an offset name, at the same offset, what the result scratch is to hold. -/
theorem gather_eq (fi : Buf (Elt F) ((VT d L).loc cc0_scratch0)) (ft : Buf (Elt F) ((VT d L).loc cc0_scratch1)) {o o' : Fin 1 → ℕ} (e : o = o')
    (hb : ∀ a, o a + S16.size a ≤ S3200.size a) (hb' : ∀ a, o' a + S16.size a ≤ S3200.size a) (x : S16.Idx)
    (v : IVec S16 32) (hv : v = andi (shapeCast S16 (iS.view.readAt (Elt F) (Rect.unit (s := S3200) o S16.size hb).toLoadRect fi) shapeCasts_S16_S16) (broadcast S16 15#32))
    (h : ∀ a x, ((![v] : Fin 1 → IVec S16 32) a x).toNat < S16.size a) :
    shapeCast S16 (loadIdx (F := F) ((tS.access (Rect.whole S16)).read (Elt F) ft) ![v] h) shapeCasts_S16_S16 x
      = ft (lane (fi ((Rect.unit (s := S3200) o' S16.size hb').emb x))) := by
  subst e
  have hx : v x = (show BitVec 32 from fi ((Rect.unit (s := S3200) o S16.size hb').emb x)) &&& 15#32 := by
    rw [hv]
    show IntOp.andi (shapeCast S16 _ _ x) (15#32) = _
    rw [cast16]; rfl
  rw [cast16]
  show ft ((tS.access (Rect.whole S16)).emb (idxAt ![v] h x)) = _
  congr 1; funext (a : Fin 1); obtain rfl : a = 0 := Subsingleton.elim _ _
  apply Fin.ext
  show 0 + 1 * (v x).toNat = (show BitVec 32 from fi _).toNat % 16
  rw [Nat.zero_add, Nat.one_mul, hx, BitVec.toNat_and]
  exact Nat.and_two_pow_sub_one_eq_mod _ 4

/-- Eight pieces of sixteen elements take the filled stretch 128 elements further. -/
theorem Filled.writes {fi : Buf (Elt F) ((VT d L).loc cc0_scratch0)} {ft : Buf (Elt F) ((VT d L).loc cc0_scratch1)} {n : ℕ}
    {fo : Buf (Elt F) ((VT d L).loc cc0_scratch2)} (h : Filled d L fi ft n fo) (Ps : List (View.Piece (Elt F) S3200 .f32))
    (hG : ∀ p ∈ Ps, ∀ x : p.1.shape.Idx, p.2 x = ft (lane (fi (p.1.emb x))))
    (hc : ∀ y : S3200.Idx, n ≤ (y 0).val → (y 0).val < n + 128 → ∃ p ∈ Ps, y ∈ p.1.set) :
    Filled d L fi ft (n + 128) (oS.view.writes (Elt F) fo Ps) := by
  intro y hy
  show oS.view.read (Elt F) (oS.view.writes (Elt F) fo Ps) y = _
  by_cases hp : ∃ p ∈ Ps, y ∈ p.1.set
  · exact View.read_writes_apply_of_pieces oS.view fo (fun y => ft (lane (fi y))) Ps hG y hp
  · rw [View.read_writes_apply_of_forall_not_mem oS.view fo y Ps fun p h' hm => hp ⟨p, h', hm⟩]
    exact h y (by by_contra hn; exact hp (hc y (not_lt.mp hn) hy))

/-- One trip of the loop: eight gathers of sixteen elements, at a symbolic trip `k`. -/
theorem trip (fi : Buf (Elt F) ((VT d L).loc cc0_scratch0)) (ft : Buf (Elt F) ((VT d L).loc cc0_scratch1)) (fo : Buf (Elt F) ((VT d L).loc cc0_scratch2))
   (k : Fin k0_t1_loop.trips) (hfo : Filled d L fi ft (128 * k.val) fo) :
    (iprop((iS.view.loc (VT d L) ↦{fullShare} fi) ∗ (tS.view.loc (VT d L) ↦{fullShare} ft) ∗ (oS.view.loc (VT d L) ↦{fullShare} fo)) : sProp 𝕄)
      ⊢ wp frame (wpE (defs₀ (F := F)) 𝒱₀ (VT d L) none) Set.univ
          (k0_t1_body L iV (Memref.isWhole_whole _) tV (Memref.isWhole_whole _) oV (Memref.isWhole_whole _)
            iS (Memref.isWhole_whole _) tS (Memref.isWhole_whole _) oS (Memref.isWhole_whole _) cc0_scratch3 cc0_scratch4 cc0_scratch5 cc0_scoped0 cc0_scoped1 k ())
          fun _ => iprop((iS.view.loc (VT d L) ↦{fullShare} fi) ∗ (tS.view.loc (VT d L) ↦{fullShare} ft)
            ∗ ∃ fo', ⌜Filled d L fi ft (128 * (k.val + 1)) fo'⌝ ∗ (oS.view.loc (VT d L) ↦{fullShare} fo')) := by
  iintro ⟨Hi, Ht, Ho⟩
  unfold k0_t1_body
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  iapply (wp_assume 𝒱₀ (VT d L) none Set.univ (chk_of_last _))
  iapply (SparseCore.wp_vectorLoadIdx 𝒱₀ (VT d L) none Set.univ (base := tS) (S := Finset.univ) (q := fullShare) (Finset.subset_univ _)) $$ Ht; iintro Ht
  sl_exec
  have l0 : k0_off3 k = ![128 * k.val + 0] := k0_off3_eq k
  have s0 : k0_off4 k 0#32 = ![128 * k.val + 0] := k0_off4_eq k 0
  have l1 : k0_off4 k 1#32 = ![128 * k.val + 16] := k0_off4_eq k 1
  have s1 : k0_off5 k 1#32 = ![128 * k.val + 16] := k0_off5_eq k 0
  have l2 : k0_off5 k 2#32 = ![128 * k.val + 32] := k0_off5_eq k 1
  have s2 : k0_off6 k 2#32 = ![128 * k.val + 32] := k0_off6_eq k 0
  have l3 : k0_off6 k 3#32 = ![128 * k.val + 48] := k0_off6_eq k 1
  have s3 : k0_off7 k 3#32 = ![128 * k.val + 48] := k0_off7_eq k 0
  have l4 : k0_off7 k 4#32 = ![128 * k.val + 64] := k0_off7_eq k 1
  have s4 : k0_off8 k 4#32 = ![128 * k.val + 64] := k0_off8_eq k 0
  have l5 : k0_off8 k 5#32 = ![128 * k.val + 80] := k0_off8_eq k 1
  have s5 : k0_off9 k 5#32 = ![128 * k.val + 80] := k0_off9_eq k 0
  have l6 : k0_off9 k 6#32 = ![128 * k.val + 96] := k0_off9_eq k 1
  have s6 : k0_off10 k 6#32 = ![128 * k.val + 96] := k0_off10_eq k 0
  have l7 : k0_off10 k 7#32 = ![128 * k.val + 112] := k0_off10_eq k 1
  have s7 : k0_off11 k = ![128 * k.val + 112] := k0_off11_eq k
  sl_step
  isplitl [Hi]; · iexact Hi
  isplitl [Ht]; · iexact Ht
  iexists _; isplitr [Ho]
  rotate_left
  · iexact Ho
  ipureintro
  rw [Nat.mul_succ]
  refine hfo.writes _ _ _ ?_ ?_
  · sl_unfold_run_names
    simp only [List.forall_mem_cons]
    exact ⟨fun x => gather_eq d L fi ft (l7.trans s7.symm) _ _ x _ rfl _,
      fun x => gather_eq d L fi ft (l6.trans s6.symm) _ _ x _ rfl _,
      fun x => gather_eq d L fi ft (l5.trans s5.symm) _ _ x _ rfl _,
      fun x => gather_eq d L fi ft (l4.trans s4.symm) _ _ x _ rfl _,
      fun x => gather_eq d L fi ft (l3.trans s3.symm) _ _ x _ rfl _,
      fun x => gather_eq d L fi ft (l2.trans s2.symm) _ _ x _ rfl _,
      fun x => gather_eq d L fi ft (l1.trans s1.symm) _ _ x _ rfl _,
      fun x => gather_eq d L fi ft (l0.trans s0.symm) _ _ x _ rfl _,
      fun _ h => absurd h List.not_mem_nil⟩
  · intro y h1 h2
    simp only [List.mem_cons, List.not_mem_nil, or_false, exists_eq_or_imp, exists_eq_left, Rect.mem_set_unit, Fin.forall_fin_one, s0, s1, s2, s3, s4, s5, s6, s7]
    simp only [Matrix.cons_val_fin_one, show S16.size 0 = 16 from rfl]
    omega

end Cert.Proof.Lookup

end
-- ==== Proof.Tile.lean ====
/-
  One tile's run. The kernel's text runs one of two tests before and after its loop: a tile before the last moves 3128 elements, the last one the
  3032 that are left. Both runs share the loop's invariant, what the copies land, and what the result scratch holds when it is copied out.
-/
module

public import proofs.«01_k».proof.Proof.Trip

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)
variable [FloatOps F] (d : Dev nD) (L : grid0.Coords)

/-- The number of the tile at coordinates `L`. -/
abbrev wid (L : grid0.Coords) : ℕ := 2 * (L 1).val + (L 0).val

/-- The first element of a tile. -/
theorem base : 6256 * (L 1).val + 3128 * (L 0).val = 3128 * wid L := by simp only [wid]; omega

/-- The five semaphores of a tile's copies, at zero. -/
def cells0 : sProp 𝕄 := iprop(semVal (VT d L, SemLoc.dma cc0_scratch3.sem) 0 ∗ semVal (VT d L, SemLoc.dma cc0_scratch4.sem) 0
  ∗ semVal (VT d L, SemLoc.dma cc0_scratch5.sem) 0 ∗ semVal (VT d L, SemLoc.dma cc0_scoped0.sem) 0 ∗ semVal (VT d L, SemLoc.dma cc0_scoped1.sem) 0)

/-- A tile before the last takes the branches of the full length. -/
theorem conds_first : ∀ L : grid0.Coords, wid L ≠ 31 → k0_cond1 L = 1#1 ∧ k0_cond2 L ≠ 1#1 ∧ k0_cond3 L = 1#1 ∧ k0_cond4 L ≠ 1#1 := by decide +kernel

/-- The last tile takes the branches of the short length. -/
theorem conds_last : ∀ L : grid0.Coords, wid L = 31 → k0_cond1 L ≠ 1#1 ∧ k0_cond2 L = 1#1 ∧ k0_cond3 L ≠ 1#1 ∧ k0_cond4 L = 1#1 := by decide +kernel

/-- The part of the result that a tile before the last writes. -/
abbrev oFirst (h : k0_cond3 L = 1#1) : Memref sig .scVector .hbm S3128 .f32 := oV.slice (Rect.unit (s := S100000) (k0_off12 L) S3128.size (k0_off12_inb L h)) (fun _ => rfl)

/-- The part of the result that the last tile writes. -/
abbrev oLast (h : k0_cond4 L = 1#1) : Memref sig .scVector .hbm S3032 .f32 := oV.slice (Rect.unit (s := S100000) (k0_off13 L) S3032.size (k0_off13_inb L h)) (fun _ => rfl)

/-- The loop takes 25 trips. -/
theorem trips_eq : k0_t1_loop.trips = 25 := by decide

/-- The first `n` elements of the index scratch are the tile's `n` indices. -/
def IdxHolds (n : ℕ) (fi : Buf (Elt F) ((VT d L).loc cc0_scratch0)) : Prop :=
  ∀ p : S3200.Idx, (p 0).val < n → ∀ j : S100000.Idx, (j 0).val = 3128 * wid L + (p 0).val → fi p = m (iLoc d) j

/-- The first four lanes of the table scratch are the table. -/
def TabHolds (X : Buf (Elt F) (tLoc d)) (ft : Buf (Elt F) ((VT d L).loc cc0_scratch1)) : Prop :=
  ∀ p : S16.Idx, ∀ l : S4.Idx, (p 0).val = (l 0).val → ft p = X l

/-- What holds before trip `k`: the indices and the table in their scratches, the first `128 k` elements looked up. -/
def inv (X : Buf (Elt F) (tLoc d)) (n : ℕ) (k : ℕ) (_ : PUnit) : sProp 𝕄 :=
  iprop(∃ fi, ∃ ft, ∃ fo, ⌜IdxHolds m d L n fi ∧ TabHolds d L X ft ∧ Filled d L fi ft (128 * k) fo⌝
    ∗ (iS.view.loc (VT d L) ↦{fullShare} fi) ∗ (tS.view.loc (VT d L) ↦{fullShare} ft) ∗ (oS.view.loc (VT d L) ↦{fullShare} fo))

/-- Every trip keeps the invariant. -/
theorem inv_step (X : Buf (Elt F) (tLoc d)) (n : ℕ) (k : Fin k0_t1_loop.trips) :
    inv m d L X n k.val ⟨⟩ ⊢ wp frame (wpE (defs₀ (F := F)) 𝒱₀ (VT d L) none) Set.univ
        (k0_t1_body L iV (Memref.isWhole_whole _) tV (Memref.isWhole_whole _) oV (Memref.isWhole_whole _)
          iS (Memref.isWhole_whole _) tS (Memref.isWhole_whole _) oS (Memref.isWhole_whole _) cc0_scratch3 cc0_scratch4 cc0_scratch5 cc0_scoped0 cc0_scoped1 k ())
        fun _ => inv m d L X n (k.val + 1) ⟨⟩ := by
  unfold inv
  iintro ⟨%fi, %ft, %fo, %h, Hs⟩
  iapply (wp_wand_r Idealize.ShloMosaic.frame (wpE (defs₀ (F := F)) 𝒱₀ (VT d L) none) Set.univ)
  isplitl [Hs]
  · iapply (trip d L fi ft fo k h.2.2); iexact Hs
  iintro %_ ⟨Hi, Ht, %fo', %hfo, Ho⟩
  iexists fi, ft, fo'; isplitr
  · ipureintro; exact ⟨h.1, h.2.1, hfo⟩
  isplitl [Hi]; · iexact Hi
  isplitl [Ht] <;> iassumption

/-! ## What the copies land -/

omit [FloatOps F] in
/-- The copy of a tile's indices lands them at the head of the index scratch. -/
theorem idx_lands {z o : Fin 1 → ℕ} (hb : ∀ a, (![0] : Fin 1 → ℕ) a + z a ≤ S3200.size a) (ho : ∀ a, o a + z a ≤ S100000.size a)
    (e : o 0 = 3128 * wid L) (fi : Buf (Elt F) ((VT d L).loc cc0_scratch0)) (w : (Rect.unit (s := S3200) ![0] z hb).shape.Idx → Elt F .i32)
    (hw : ∀ x, w x = m (iLoc d) ((Rect.unit (s := S100000) o z ho).emb x)) :
    IdxHolds m d L (z 0) (iS.view.writes (Elt F) fi [⟨Rect.unit (s := S3200) ![0] z hb, w⟩]) := by
  intro p hp j hj
  obtain ⟨x, rfl⟩ := (Rect.unit (s := S3200) ![0] z hb).exists_idx_of_mem (i := p) (Rect.mem_set_unit.mpr (Fin.forall_fin_one.mpr ⟨Nat.zero_le _, by
    simpa using hp⟩))
  refine (View.read_writes_cons_emb (v := iS.view) (f := fi) _ w [] x).trans ((hw x).trans (congrArg _ (funext fun a => Fin.ext ?_)))
  obtain rfl : a = 0 := Subsingleton.elim _ _
  rw [hj, ← e]
  show o 0 + 1 * (x 0).val = o 0 + (0 + 1 * (x 0).val)
  omega

omit [FloatOps F] in
/-- The copy of the table lands it in the first lanes of the table scratch. -/
theorem tab_lands (X : Buf (Elt F) (tLoc d)) (ft : Buf (Elt F) ((VT d L).loc cc0_scratch1)) (w : S4.Idx → Elt F .f32) (hw : ∀ x, w x = X x) :
    TabHolds d L X (tS.view.writes (Elt F) ft [⟨Rect.unit (s := S16) ![0] S4.size inb_S16_S4_0, w⟩]) := by
  intro p l hl
  obtain rfl : (Rect.unit (s := S16) ![0] S4.size inb_S16_S4_0).emb l = p := funext fun a => Fin.ext (by
    obtain rfl : a = 0 := Subsingleton.elim _ _
    rw [hl]; show 0 + 1 * (l 0).val = (l 0).val; omega)
  exact (View.read_writes_cons_emb (v := tS.view) (f := ft) (Rect.unit (s := S16) ![0] S4.size inb_S16_S4_0) w [] l).trans (hw l)

omit [FloatOps F] in
/-- A slice of the result from the tile's first element on, cut at the tile's length or at the array's end, is the tile's stretch. -/
theorem set_stretch {z o : Fin 1 → ℕ} (ho : ∀ a, o a + z a ≤ S100000.size a) (e : o 0 = 3128 * wid L)
    (hz : z 0 = 3128 ∨ (z 0 < 3128 ∧ o 0 + z 0 = 100000)) : (Rect.unit (s := S100000) o z ho).set = stretch (wid L) := by
  ext j
  have hj : (j 0).val < 100000 := (j 0).isLt
  rw [Rect.mem_set_unit, Fin.forall_fin_one, stretch, Finset.mem_filter]
  simp only [Finset.mem_univ, true_and, e] at hz ⊢
  omega

omit [FloatOps F] in
/-- The result scratch, filled as far as the tile's length and copied out, is what the tile is asked for. -/
theorem looked_of {z o : Fin 1 → ℕ} (hb : ∀ a, (![0] : Fin 1 → ℕ) a + z a ≤ S3200.size a) (ho : ∀ a, o a + z a ≤ S100000.size a) (e : o 0 = 3128 * wid L)
    (hs : (Rect.unit (s := S100000) o z ho).set = stretch (wid L)) {X : Buf (Elt F) (tLoc d)} (f : Buf (Elt F) (oLoc d))
    {gi : Buf (Elt F) ((VT d L).loc cc0_scratch0)} {gt : Buf (Elt F) ((VT d L).loc cc0_scratch1)} {go : Buf (Elt F) ((VT d L).loc cc0_scratch2)}
    (hi : IdxHolds m d L (z 0) gi) (ht : TabHolds d L X gt) {n : ℕ} (hgo : Filled d L gi gt n go) (hn : z 0 ≤ n)
    (w : (Rect.unit (s := S100000) o z ho).shape.Idx → Elt F .f32) (hw : ∀ x, w x = go ((Rect.unit (s := S3200) ![0] z hb).emb x)) :
    Looked m d X (wid L) ((oV.slice (Rect.unit (s := S100000) o z ho) (fun _ => rfl)).view.writes (Elt F) f [⟨Rect.whole _, w⟩]) := by
  intro j hj l hl
  obtain ⟨x, rfl⟩ := (Rect.unit (s := S100000) o z ho).exists_idx_of_mem (i := j) (hs ▸ hj)
  refine (congrFun (View.read_writes_whole (oV.slice (Rect.unit (s := S100000) o z ho) (fun _ => rfl)).view f w) x).trans ?_
  have hx : (x 0).val < z 0 := (x 0).isLt
  have hz : 0 + z 0 ≤ 3200 := hb 0
  have hp : ((Rect.unit (s := S3200) ![0] z hb).emb x 0).val = (x 0).val := by show 0 + 1 * (x 0).val = _; omega
  rw [hw x, hgo _ (by rw [hp]; omega), hi _ (by rw [hp]; exact hx) ((Rect.unit (s := S100000) o z ho).emb x) (by
    rw [hp, ← e]; show o 0 + 1 * (x 0).val = _; omega)]
  refine ht _ l ?_
  show (show BitVec 32 from m (iLoc d) _).toNat % 16 = _
  have h4 : (l 0).val < 4 := (l 0).isLt
  have hl' : (show BitVec 32 from m (iLoc d) ((Rect.unit (s := S100000) o z ho).emb x)).toNat = (l 0).val := hl
  rw [hl']; omega

/-- What a tile starts its task with: shares of the indices and of the table, the part of the result that it
writes, its scratches, its semaphores at zero and the waits it owes. -/
def start (q q' : PosShare TreeShare) (X : Buf (Elt F) (tLoc d)) (S : Finset S100000.Idx) (O : CellTallies nD τ sig (HIx 1)) (W : Waits sig (HIx 1))
    (f0 : Buf (Elt F) (oLoc d)) (fi : Buf (Elt F) ((VT d L).loc cc0_scratch0)) (ft : Buf (Elt F) ((VT d L).loc cc0_scratch1))
    (fo : Buf (Elt F) ((VT d L).loc cc0_scratch2)) : sProp 𝕄 :=
  iprop(Transfers.MayWaits (VT d L) (none : HIx 1) O
    ∗ (iV.view.loc (VT d L) ↦{q} m (iLoc d)) ∗ (tV.view.loc (VT d L) ↦{q'} X) ∗ (oV.view.loc (VT d L) ↦[S]{fullShare} f0)
    ∗ (iS.view.loc (VT d L) ↦{fullShare} fi) ∗ (tS.view.loc (VT d L) ↦{fullShare} ft) ∗ (oS.view.loc (VT d L) ↦{fullShare} fo)
    ∗ cells0 d L ∗ owes (VT d L) O W)

/-- What it ends its task with: the same, the part of the result now looked up. -/
def finish (q q' : PosShare TreeShare) (X : Buf (Elt F) (tLoc d)) (S : Finset S100000.Idx) (O : CellTallies nD τ sig (HIx 1)) (W : Waits sig (HIx 1)) : sProp 𝕄 :=
  iprop((iV.view.loc (VT d L) ↦{q} m (iLoc d)) ∗ (tV.view.loc (VT d L) ↦{q'} X)
    ∗ (∃ f, ⌜Looked m d X (wid L) f⌝ ∗ oV.view.loc (VT d L) ↦[S]{fullShare} f)
    ∗ (∃ f, iS.view.loc (VT d L) ↦{fullShare} f) ∗ (∃ f, tS.view.loc (VT d L) ↦{fullShare} f) ∗ (∃ f, oS.view.loc (VT d L) ↦{fullShare} f)
    ∗ cells0 d L ∗ ∃ W', ⌜∀ p ∈ W', p ∈ W ∨ p.2 = none⌝ ∗ owes (VT d L) O W')

/-- The kernel's body at a tile. -/
abbrev body := cc0_sc_lookup (F := F) L iV (Memref.isWhole_whole _) tV (Memref.isWhole_whole _) oV (Memref.isWhole_whole _)
  iS (Memref.isWhole_whole _) tS (Memref.isWhole_whole _) oS (Memref.isWhole_whole _) cc0_scratch3 cc0_scratch4 cc0_scratch5 cc0_scoped0 cc0_scoped1

omit [FloatOps F] in
/-- The slice that a tile before the last writes is its stretch. -/
theorem set_first (h3 : k0_cond3 L = 1#1) : (oFirst L h3).view.set = stretch (wid L) :=
  (View.set_slice _ _).trans ((Finset.map_refl ..).trans (set_stretch L _ ((congrFun (k0_off12_eq L) 0).trans (base L)) (.inl rfl)))

/-- The last tile's slice is shorter and ends with the array. -/
theorem last_ends (h : wid L = 31) : S3032.size 0 = 3128 ∨ (S3032.size 0 < 3128 ∧ k0_off13 L 0 + S3032.size 0 = 100000) :=
  .inr ⟨by decide, by rw [k0_off13_eq]; show 6256 * (L 1).val + 3128 * (L 0).val + 3032 = _; simp only [wid] at h; omega⟩

omit [FloatOps F] in
/-- The slice that the last tile writes is its stretch. -/
theorem set_last (h : wid L = 31) (h4 : k0_cond4 L = 1#1) : (oLast L h4).view.set = stretch (wid L) :=
  (View.set_slice _ _).trans ((Finset.map_refl ..).trans (set_stretch L _ ((congrFun (k0_off13_eq L) 0).trans (base L))
    (last_ends L h)))

/-- The run of a tile before the last: 3128 indices in, 3128 values out. -/
theorem run_first (q q' : PosShare TreeShare) (X : Buf (Elt F) (tLoc d)) (h : wid L ≠ 31) (h3 : k0_cond3 L = 1#1)
    (O : CellTallies nD τ sig (HIx 1)) (W : Waits sig (HIx 1)) (f0 : Buf (Elt F) (oLoc d))
    (fi : Buf (Elt F) ((VT d L).loc cc0_scratch0)) (ft : Buf (Elt F) ((VT d L).loc cc0_scratch1)) (fo : Buf (Elt F) ((VT d L).loc cc0_scratch2)) :
    start m d L q q' X (oFirst L h3).view.set O W f0 fi ft fo
      ⊢ wp frame (wpE (defs₀ (F := F)) 𝒱₀ (VT d L) none) Set.univ (body L) fun _ => finish m d L q q' X (oFirst L h3).view.set O W := by
  obtain ⟨h1, h2, -, h4⟩ := conds_first L h
  unfold start finish body
  rw [cc0_sc_lookup_eq_skeleton]; unfold cc0_sc_lookup_skel cells0
  iintro ⟨#Hmw, HI, HT, HO, Hi, Ht, Ho, ⟨Hc0, Hc1, Hc2, Hc3, Hc4⟩, HW⟩
  ihave HO := (show (oV.view.loc (VT d L) ↦[(oFirst L h3).view.set]{fullShare} f0 : sProp 𝕄)
    ⊢ ((oFirst L h3).view.loc (VT d L) ↦[(oFirst L h3).view.set]{fullShare} f0) from .rfl) $$ HO
  sl_exec
  sl_for (inv m d L X 3128) $$ [Hi Ht Ho]
  case region =>
    intro k _
    exact inv_step m d L X 3128 k
  · unfold inv
    iexists _, _, _; isplitr
    rotate_left
    · isplitl [Hi]; · iexact Hi
      isplitl [Ht] <;> iassumption
    ipureintro
    refine ⟨?_, ?_, fun p hp => absurd hp (Nat.not_lt_zero _)⟩
    · sl_unfold_run_names
      exact idx_lands m d L inb_S3200_S3128_0 (k0_off1_inb L h1) ((congrFun (k0_off1_eq L) 0).trans (base L)) fi _ fun _ => rfl
    · sl_unfold_run_names
      exact tab_lands d L X ft _ fun _ => rfl
  iintro %_ Hs
  unfold inv
  icases Hs with ⟨%gi, %gt, %go, %hg, Hi, Ht, Ho⟩
  sl_exec
  sl_step
  isplitl [HI]; · iexact HI
  isplitl [HT]; · iexact HT
  isplitl [HO]
  · iexists _; isplitr
    rotate_left
    · iexact HO
    ipureintro
    sl_unfold_run_names
    exact looked_of m d L inb_S3200_S3128_0 (k0_off12_inb L h3) ((congrFun (k0_off12_eq L) 0).trans (base L)) (set_stretch L _ ((congrFun (k0_off12_eq L) 0).trans (base L)) (.inl rfl))
      f0 hg.1 hg.2.1 hg.2.2 (by rw [show Scf.trips k0_t1_loop.lb k0_t1_loop.ub k0_t1_loop.st = 25 from trips_eq]; decide) _ fun _ => rfl
  isplitl [Hi]; · iexists _; iexact Hi
  isplitl [Ht]; · iexists _; iexact Ht
  isplitl [Ho]; · iexists _; iexact Ho
  isplitr [HW]
  · isplitl [Hc0]; · iexact Hc0
    isplitl [Hc1]; · iexact Hc1
    isplitl [Hc2]; · iexact Hc2
    isplitl [Hc3]; · iexact Hc3
    iexact Hc4
  iexists _; isplitr
  rotate_left
  · iexact HW
  ipureintro
  intro p hp
  simp only [Finset.mem_insert] at hp
  rcases hp with rfl | rfl | rfl | hp
  · exact .inr rfl
  · exact .inr rfl
  · exact .inr rfl
  · exact .inl hp

/-- The run of the last tile: 3032 indices in, 3032 values out. -/
theorem run_last (q q' : PosShare TreeShare) (X : Buf (Elt F) (tLoc d)) (h : wid L = 31) (h4 : k0_cond4 L = 1#1)
    (O : CellTallies nD τ sig (HIx 1)) (W : Waits sig (HIx 1)) (f0 : Buf (Elt F) (oLoc d))
    (fi : Buf (Elt F) ((VT d L).loc cc0_scratch0)) (ft : Buf (Elt F) ((VT d L).loc cc0_scratch1)) (fo : Buf (Elt F) ((VT d L).loc cc0_scratch2)) :
    start m d L q q' X (oLast L h4).view.set O W f0 fi ft fo
      ⊢ wp frame (wpE (defs₀ (F := F)) 𝒱₀ (VT d L) none) Set.univ (body L) fun _ => finish m d L q q' X (oLast L h4).view.set O W := by
  obtain ⟨h1, h2, h3, -⟩ := conds_last L h
  unfold start finish body
  rw [cc0_sc_lookup_eq_skeleton]; unfold cc0_sc_lookup_skel cells0
  iintro ⟨#Hmw, HI, HT, HO, Hi, Ht, Ho, ⟨Hc0, Hc1, Hc2, Hc3, Hc4⟩, HW⟩
  ihave HO := (show (oV.view.loc (VT d L) ↦[(oLast L h4).view.set]{fullShare} f0 : sProp 𝕄)
    ⊢ ((oLast L h4).view.loc (VT d L) ↦[(oLast L h4).view.set]{fullShare} f0) from .rfl) $$ HO
  sl_exec
  sl_for (inv m d L X 3032) $$ [Hi Ht Ho]
  case region =>
    intro k _
    exact inv_step m d L X 3032 k
  · unfold inv
    iexists _, _, _; isplitr
    rotate_left
    · isplitl [Hi]; · iexact Hi
      isplitl [Ht] <;> iassumption
    ipureintro
    refine ⟨?_, ?_, fun p hp => absurd hp (Nat.not_lt_zero _)⟩
    · sl_unfold_run_names
      exact idx_lands m d L inb_S3200_S3032_0 (k0_off2_inb L h2) ((congrFun (k0_off2_eq L) 0).trans (base L)) fi _ fun _ => rfl
    · sl_unfold_run_names
      exact tab_lands d L X ft _ fun _ => rfl
  iintro %_ Hs
  unfold inv
  icases Hs with ⟨%gi, %gt, %go, %hg, Hi, Ht, Ho⟩
  sl_exec
  sl_step
  isplitl [HI]; · iexact HI
  isplitl [HT]; · iexact HT
  isplitl [HO]
  · iexists _; isplitr
    rotate_left
    · iexact HO
    ipureintro
    sl_unfold_run_names
    exact looked_of m d L inb_S3200_S3032_0 (k0_off13_inb L h4) ((congrFun (k0_off13_eq L) 0).trans (base L)) (set_stretch L _ ((congrFun (k0_off13_eq L) 0).trans (base L)) (last_ends L h))
      f0 hg.1 hg.2.1 hg.2.2 (by rw [show Scf.trips k0_t1_loop.lb k0_t1_loop.ub k0_t1_loop.st = 25 from trips_eq]; decide) _ fun _ => rfl
  isplitl [Hi]; · iexists _; iexact Hi
  isplitl [Ht]; · iexists _; iexact Ht
  isplitl [Ho]; · iexists _; iexact Ho
  isplitr [HW]
  · isplitl [Hc0]; · iexact Hc0
    isplitl [Hc1]; · iexact Hc1
    isplitl [Hc2]; · iexact Hc2
    isplitl [Hc3]; · iexact Hc3
    iexact Hc4
  iexists _; isplitr
  rotate_left
  · iexact HW
  ipureintro
  intro p hp
  simp only [Finset.mem_insert] at hp
  rcases hp with rfl | rfl | rfl | hp
  · exact .inr rfl
  · exact .inr rfl
  · exact .inr rfl
  · exact .inl hp

end Cert.Proof.Lookup

end
-- ==== Proof.Deal.lean ====
/-
  How the launch's resources are dealt. Both SparseCores, and on each its 16 tiles, read all the indices and the whole table, so each reader holds
  a share of them; the result is cut into the tiles' stretches. One lemma deals a holding among the members of a set and one gathers
  it again with what the members have found out about their parts; they serve for the two cores and for the tiles of a core alike.
-/
module

public import proofs.«01_k».proof.Proof.Tile

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (d : Dev nD)

/-- The table in a row: what the host's first operation leaves. -/
def tab : Buf (Elt F) (tLoc d) := shapeCast S4 (m (gLoc d)) shapeCasts_S4x1_S4

/-- A holding: share `q` of the indices and of the table, and the part `S` of the result, of whose contents `p` is known. -/
def Piece (q : PosShare TreeShare) (S : Finset S100000.Idx) (p : Buf (Elt F) (oLoc d) → Prop) : sProp 𝕄 :=
  iprop((iLoc d ↦{q} m (iLoc d)) ∗ (tLoc d ↦{q} tab m d) ∗ ∃ f, ⌜p f⌝ ∗ oLoc d ↦[S]{fullShare} f)

/-- A holding can be stored. -/
instance Piece_storable (q : PosShare TreeShare) (S : Finset S100000.Idx) (p : Buf (Elt F) (oLoc d) → Prop) :
    BI.Storable (upEmb : UEmb _ 𝕄) (Piece m d q S p) := by unfold Piece; infer_instance

/-- A holding of a union is dealt among its members. -/
theorem Piece.deal {I : Type} [LinearOrder I] [Fintype I] [Nonempty I] (q : PosShare TreeShare) (R : I → Finset S100000.Idx)
    (hR : ∀ i j, i ≠ j → Disjoint (R i) (R j)) (p : Buf (Elt F) (oLoc d) → Prop) :
    Piece m d q (Finset.univ.biUnion R) p ⊢ bigSep Finset.univ fun i => Piece m d (Transfers.dealOf q Finset.univ i) (R i) fun _ => True := by
  unfold Piece
  rw [Transfers.pointsTo_deal (ℓ := iLoc d) (Finset.univ : Finset I) Finset.univ_nonempty q, Transfers.pointsTo_deal (ℓ := tLoc d) (Finset.univ : Finset I) Finset.univ_nonempty q, bigSep_sep', bigSep_sep']
  iintro ⟨Hi, Ht, %f, -, Ho⟩
  isplitl [Hi]; · iexact Hi
  isplitl [Ht]; · iexact Ht
  ihave Ho := (Entails.of_eq (pointsTo_biUnion (ℓ := oLoc d) Finset.univ R fun i _ j _ h => hR i j h)) $$ Ho
  have known : (bigSep Finset.univ fun i => (oLoc d ↦[R i]{fullShare} f : sProp 𝕄)) ⊢ bigSep Finset.univ fun i => iprop(∃ f, ⌜True⌝ ∗ oLoc d ↦[R i]{fullShare} f) :=
    bigSep_mono fun i _ => show (oLoc d ↦[R i]{fullShare} f : sProp 𝕄) ⊢ iprop(∃ f, ⌜True⌝ ∗ oLoc d ↦[R i]{fullShare} f) from by
      iintro H; iexists f; isplitr; · ipureintro; trivial
      iexact H
  iapply known
  iexact Ho

/-- The members' holdings make the holding of the union, of which all is known that was known of the parts. -/
theorem Piece.gather {I : Type} [LinearOrder I] [Fintype I] [Nonempty I] (q : PosShare TreeShare) (R : I → Finset S100000.Idx)
    (hR : ∀ i j, i ≠ j → Disjoint (R i) (R j)) (p : I → Buf (Elt F) (oLoc d) → Prop)
    (hp : ∀ i f g, (∀ j ∈ R i, g j = f j) → p i f → p i g) :
    (bigSep Finset.univ fun i => Piece m d (Transfers.dealOf q Finset.univ i) (R i) (p i)) ⊢ Piece m d q (Finset.univ.biUnion R) fun f => ∀ i, p i f := by
  unfold Piece
  rw [Transfers.pointsTo_deal (ℓ := iLoc d) (Finset.univ : Finset I) Finset.univ_nonempty q, Transfers.pointsTo_deal (ℓ := tLoc d) (Finset.univ : Finset I) Finset.univ_nonempty q, bigSep_sep', bigSep_sep']
  iintro ⟨Hi, Ht, Ho⟩
  isplitl [Hi]; · iexact Hi
  isplitl [Ht]; · iexact Ht
  haveI : Nonempty (Buf (Elt F) (oLoc d)) := ⟨m (oLoc d)⟩
  ihave Ho := (bigSep_exists_pi Finset.univ fun i (f : Buf (Elt F) (oLoc d)) => iprop(⌜p i f⌝ ∗ (oLoc d ↦[R i]{fullShare} f : sProp 𝕄))) $$ Ho
  icases Ho with ⟨%fs, Ho⟩
  ihave Ho := (bigSep_pure_sep Finset.univ (fun i => p i (fs i)) fun i => (oLoc d ↦[R i]{fullShare} fs i : sProp 𝕄)) $$ Ho
  icases Ho with ⟨%hfs, Ho⟩
  ihave Ho := (pointsTo_biUnion_join (ℓ := oLoc d) Finset.univ R fs (m (oLoc d)) fun i _ j _ h => hR i j h) $$ Ho
  icases Ho with ⟨%g, %hg, Ho⟩
  iexists g; isplitr
  · ipureintro; exact fun i => hp i _ _ (hg i (Finset.mem_univ i)) (hfs i (Finset.mem_univ i))
  iexact Ho

/-! ## The cores and their tiles -/

/-- A tile's stretch, by the block of 3128 elements that an element lies in. -/
theorem mem_stretch {w : ℕ} {j : S100000.Idx} : j ∈ stretch w ↔ (j 0).val / 3128 = w := by
  rw [stretch, Finset.mem_filter]; simp only [Finset.mem_univ, true_and]; omega

/-- What the tiles of core `c` write. -/
def coreSet (c : Fin 2) : Finset S100000.Idx := Finset.univ.biUnion fun i : Fin 16 => stretch (2 * i.val + c.val)

/-- Two tiles of a core write apart. -/
theorem tiles_apart (c : Fin 2) (i j : Fin 16) (h : i ≠ j) : Disjoint (stretch (2 * i.val + c.val)) (stretch (2 * j.val + c.val)) := by
  refine Finset.disjoint_left.mpr fun x h1 h2 => h (Fin.ext ?_)
  rw [mem_stretch] at h1 h2; omega

/-- The two cores write apart. -/
theorem cores_apart (c e : Fin 2) (h : c ≠ e) : Disjoint (coreSet c) (coreSet e) := by
  refine Finset.disjoint_left.mpr fun x h1 h2 => h (Fin.ext ?_)
  obtain ⟨i, -, h1⟩ := Finset.mem_biUnion.mp h1
  obtain ⟨j, -, h2⟩ := Finset.mem_biUnion.mp h2
  rw [mem_stretch] at h1 h2; omega

/-- Together they write all of the result. -/
theorem cores_cover : Finset.univ.biUnion coreSet = Finset.univ := by
  refine Finset.eq_univ_of_forall fun x => ?_
  have hx : (x 0).val < 100000 := (x 0).isLt
  refine Finset.mem_biUnion.mpr ⟨⟨(x 0).val / 3128 % 2, by omega⟩, Finset.mem_univ _, Finset.mem_biUnion.mpr ⟨⟨(x 0).val / 3128 / 2, by omega⟩, Finset.mem_univ _, mem_stretch.mpr ?_⟩⟩
  show (x 0).val / 3128 = 2 * ((x 0).val / 3128 / 2) + (x 0).val / 3128 % 2
  omega

/-- The reading shares of core `c` and of its tile `i`. -/
abbrev shC (c : Fin 2) : PosShare TreeShare := Transfers.dealOf fullShare Finset.univ c
abbrev shV (c : Fin 2) (i : Fin 16) : PosShare TreeShare := Transfers.dealOf (shC c) Finset.univ i

/-- What tile `i` of core `c` is asked for. -/
abbrev TileDone (c : Fin 2) (i : Fin 16) (f : Buf (Elt F) (oLoc d)) : Prop := Looked m d (tab m d) (2 * i.val + c.val) f

/-- It speaks of the tile's stretch alone. -/
theorem TileDone.local (c : Fin 2) (i : Fin 16) (f g : Buf (Elt F) (oLoc d)) (h : ∀ j ∈ stretch (2 * i.val + c.val), g j = f j) (hf : TileDone m d c i f) : TileDone m d c i g :=
  fun j hj l hl => (h j hj).trans (hf j hj l hl)

/-- So a core's task, that of its tiles, speaks of the core's part alone. -/
theorem CoreDone.local (c : Fin 2) (f g : Buf (Elt F) (oLoc d)) (h : ∀ j ∈ coreSet c, g j = f j) (hf : ∀ i, TileDone m d c i f) (i : Fin 16) : TileDone m d c i g :=
  TileDone.local m d c i f g (fun j hj => h j (Finset.mem_biUnion.mpr ⟨i, Finset.mem_univ i, hj⟩)) (hf i)

/-! ## What the call's signals carry -/

/-- The call runs on both SparseCores. -/
theorem nCore_zero : (K (F := F)).nCore 0 = 2 := rfl
/-- It runs on all 16 tiles of each. -/
theorem nSub_zero : (K (F := F)).nSub 0 = 16 := rfl

/-- The call hands each core its holding, the core each tile its; back come the same with what has been looked up. -/
def P : (K (F := F)).Pay (nD := nD) (Val := Elt F) (Name := ℕ) (U := UU) where
  st := fun q d c => match q with | 0 => Piece m d (shC (Fin.cast nCore_zero c)) (coreSet (Fin.cast nCore_zero c)) fun _ => True
  dn := fun q d c => match q with | 0 => Piece m d (shC (Fin.cast nCore_zero c)) (coreSet (Fin.cast nCore_zero c)) fun f => ∀ i, TileDone m d (Fin.cast nCore_zero c) i f
  go := fun q d c i => match q with
    | 0 => Piece m d (shV (Fin.cast nCore_zero c) (Fin.cast nSub_zero i)) (stretch (2 * i.val + c.val)) fun _ => True
  td := fun q d c i => match q with
    | 0 => Piece m d (shV (Fin.cast nCore_zero c) (Fin.cast nSub_zero i)) (stretch (2 * i.val + c.val)) (TileDone m d (Fin.cast nCore_zero c) (Fin.cast nSub_zero i))
  x := fun _ _ => iprop(emp)

/-- What the signals carry can be stored. -/
instance P_storable : (P (F := F) m).IsStorable where
  st q d c := match q with | 0 => (inferInstance : BI.Storable (upEmb : UEmb _ 𝕄) (Piece m d _ _ _))
  dn q d c := match q with | 0 => (inferInstance : BI.Storable (upEmb : UEmb _ 𝕄) (Piece m d _ _ _))
  go q d c i := match q with | 0 => (inferInstance : BI.Storable (upEmb : UEmb _ 𝕄) (Piece m d _ _ _))
  td q d c i := match q with | 0 => (inferInstance : BI.Storable (upEmb : UEmb _ 𝕄) (Piece m d _ _ _))

/-- A core deals its holding to its tiles and makes it again of theirs. -/
theorem vecSplit : (K (F := F)).VecSplit' (P m) 0 := by
  intro d c
  have out : (P m).st 0 d c ⊢ bigSep Finset.univ fun i : Fin ((K (F := F)).nSub 0) => (P m).go 0 d c i :=
    Piece.deal m d (shC (Fin.cast nCore_zero c)) (fun i : Fin 16 => stretch (2 * i.val + c.val)) (tiles_apart (Fin.cast nCore_zero c)) fun _ => True
  have back : (bigSep Finset.univ fun i : Fin ((K (F := F)).nSub 0) => (P m).td 0 d c i) ⊢ (P m).dn 0 d c :=
    Piece.gather m d (shC (Fin.cast nCore_zero c)) (fun i : Fin 16 => stretch (2 * i.val + c.val)) (tiles_apart (Fin.cast nCore_zero c))
      (TileDone m d (Fin.cast nCore_zero c)) (TileDone.local m d (Fin.cast nCore_zero c))
  iintro H; imodintro
  isplitl [H]
  · iapply out; iexact H
  iintro H
  iapply back; iexact H

/-- What the call takes, made of the whole arrays. -/
theorem call_takes : Piece m d fullShare Finset.univ (fun _ => True) ⊢ bigSep Finset.univ fun c : Fin ((K (F := F)).nCore 0) => (P m).st 0 d c := by
  rw [← cores_cover]; exact Piece.deal m d fullShare coreSet cores_apart fun _ => True

/-- What the call leaves, the whole arrays again, every tile's task done. -/
theorem call_leaves : (bigSep Finset.univ fun c : Fin ((K (F := F)).nCore 0) => (P m).dn 0 d c) ⊢ Piece m d fullShare Finset.univ fun f => ∀ c i, TileDone m d c i f := by
  rw [← cores_cover]; exact Piece.gather m d fullShare coreSet cores_apart (fun c f => ∀ i, TileDone m d c i f) (CoreDone.local m d)

end Cert.Proof.Lookup

end
-- ==== Proof.Launch.lean ====
/-
  The kernel's run at launch: the tile's task from what the launch hands a tile, the program's main text around the call,
  and from these the run of the whole program, `run_main`: the arguments are left as they were, every semaphore is at zero, and the
  result's row is the table's row wherever the index names one.
-/
module

public import proofs.«01_k».proof.Proof.Deal

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## What a tile owns -/

section Tile

variable (d : Dev nD) (L : grid0.Coords)

/-- Of a set, the members that `f` names, one by one, and the others. -/
theorem bigSep_named {I J : Type} [DecidableEq I] [DecidableEq J] (s : Finset I) (t : Finset J) (f : J → I) (inj : Function.Injective f) (sub : ∀ j ∈ t, f j ∈ s)
    (Φ : I → sProp 𝕄) : bigSep s Φ = iprop((bigSep t fun j => Φ (f j)) ∗ bigSep (s \ t.image f) Φ) := by
  rw [← SparseCore.bigSep_image_of_injOn (inj.injOn (s := (t : Set J)))]
  exact bigSep_sdiff_split fun x hx => by obtain ⟨j, hj, rfl⟩ := Finset.mem_image.mp hx; exact sub j hj

/-- The semaphores of a tile's copies. -/
def copySems : Finset (SemLoc sig) := {.dma cc0_scratch3.sem, .dma cc0_scratch4.sem, .dma cc0_scratch5.sem, .dma cc0_scoped0.sem, .dma cc0_scoped1.sem}

/-- A tile's scratches. -/
def scratches : Finset (Ref sig .scVector) := {cc0_scratch0, cc0_scratch1, cc0_scratch2}

/-- The semaphores that a tile owns: those of its copies and the others. -/
theorem ownSems_tile : (SparseCore.Cfg.ownSems0 (VT d L) : sProp 𝕄)
    = iprop(cells0 d L ∗ bigSep (SparseCore.Cfg.ownCells (VT d L) \ copySems.image fun sm => ((VT d L, sm) : GSem nD τ sig)) fun g => semVal g 0) := by
  unfold SparseCore.Cfg.ownSems0 cells0
  rw [bigSep_named _ copySems (fun sm => ((VT d L, sm) : GSem nD τ sig)) (fun _ _ e => (Prod.mk.inj e).2)
    (fun sm h => SparseCore.Cfg.mem_ownCells.mpr ⟨rfl, (show ∀ sm ∈ copySems, (sm : SemLoc sig).isScoped .scVector = true by decide) sm h⟩) _]
  unfold copySems
  rw [SparseCore.bigSep_insert' (by decide), SparseCore.bigSep_insert' (by decide), SparseCore.bigSep_insert' (by decide), SparseCore.bigSep_insert' (by decide), bigSep_singleton]

/-- The buffers that a tile owns: its scratches and the others. -/
theorem ownBufs_tile : (SparseCore.Cfg.ownBufs (VT d L) : sProp 𝕄)
    = iprop(((∃ f, (VT d L).loc cc0_scratch0 ↦{fullShare} f) ∗ (∃ f, (VT d L).loc cc0_scratch1 ↦{fullShare} f) ∗ ∃ f, (VT d L).loc cc0_scratch2 ↦{fullShare} f)
      ∗ bigSep (SparseCore.Cfg.ownRefs (τ := τ) (.scVector (cV L) (jV L)) \ scratches.image (Proc.scVector (cV L) (jV L)).devRef)
        fun b => iprop(∃ f, ((d, b) : Loc nD τ sig) ↦{fullShare} f)) := by
  unfold SparseCore.Cfg.ownBufs
  refine (bigSep_named _ scratches (Proc.scVector (cV L) (jV L)).devRef (Proc.devRef_injective _)
    (fun b h => SparseCore.Cfg.mem_ownRefs_of_owner (p := Proc.scVector (cV L) (jV L)) ?_) _).trans ?_
  · unfold scratches at h
    simp only [Finset.mem_insert, Finset.mem_singleton] at h
    rcases h with rfl | rfl | rfl <;> rfl
  unfold scratches
  rw [SparseCore.bigSep_insert' (by decide), SparseCore.bigSep_insert' (by decide), bigSep_singleton]

variable [FloatOps F]

/-- A tile's run, whichever tile it is. -/
theorem run_tile (q q' : PosShare TreeShare) (X : Buf (Elt F) (tLoc d)) (O : CellTallies nD τ sig (HIx 1)) (W : Waits sig (HIx 1)) (f0 : Buf (Elt F) (oLoc d))
    (fi : Buf (Elt F) ((VT d L).loc cc0_scratch0)) (ft : Buf (Elt F) ((VT d L).loc cc0_scratch1)) (fo : Buf (Elt F) ((VT d L).loc cc0_scratch2)) :
    start m d L q q' X (stretch (wid L)) O W f0 fi ft fo
      ⊢ wp frame (wpE (defs₀ (F := F)) 𝒱₀ (VT d L) none) Set.univ (body L) fun _ => finish m d L q q' X (stretch (wid L)) O W := by
  by_cases h : wid L = 31
  · have h4 := (conds_last L h).2.2.2
    rw [← set_last L h h4]
    exact run_last m d L q q' X h h4 O W f0 fi ft fo
  · have h3 := (conds_first L h).2.2.1
    rw [← set_first L h3]
    exact run_first m d L q q' X h h3 O W f0 fi ft fo

/-- A tile's task, from what the launch and the call hand it. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp ∗ Piece m d q (stretch (wid L)) (fun _ => True)
        ∗ scopedBufs (VT d L) ∗ scopedSems0 (VT d L) ∗ owes (VT d L) O W)
      ⊢ wp frame (wpE (defs₀ (F := F)) 𝒱₀ (VT d L) none) Set.univ (body L)
          fun _ => iprop(Piece m d q (stretch (wid L)) (Looked m d (tab m d) (wid L)) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems_tile, ownBufs_tile]
  unfold Piece
  iintro ⟨#Hlv, -, ⟨HI, HT, %f0, -, HO⟩, ⟨⟨⟨%fi, Hi⟩, ⟨%ft, Ht⟩, ⟨%fo, Ho⟩⟩, Hbufs⟩, ⟨Hcells, Hsems⟩, HW⟩
  ihave Hmw := (show (levAts (K (F := F)).L (K (F := F)).lev : sProp 𝕄) ⊢ Transfers.MayWaits (VT d L) (none : HIx 1) O from (K (F := F)).mayWaits_none (thr := VT d L) hO) $$ Hlv
  iapply (wp_wand_r frame (wpE (defs₀ (F := F)) 𝒱₀ (VT d L) none) Set.univ)
  isplitl [Hmw HI HT HO Hi Ht Ho Hcells HW]
  · iapply (run_tile m d L q q (tab m d) O W f0 fi ft fo)
    unfold start
    isplitl [Hmw]; · iexact Hmw
    isplitl [HI]; · iexact HI
    isplitl [HT]; · iexact HT
    isplitl [HO]; · iexact HO
    isplitl [Hi]; · iexact Hi
    isplitl [Ht]; · iexact Ht
    isplitl [Ho]; · iexact Ho
    isplitl [Hcells] <;> iassumption
  iintro %_ H
  unfold finish
  icases H with ⟨HI, HT, ⟨%f, %hf, HO⟩, ⟨%fi', Hi⟩, ⟨%ft', Ht⟩, ⟨%fo', Ho⟩, Hcells, %W', %hW', HW⟩
  isplitl [HI HT HO]
  · isplitl [HI]; · iexact HI
    isplitl [HT]; · iexact HT
    iexists f; isplitr
    · ipureintro; exact hf
    iexact HO
  isplitl [Hi Ht Ho Hbufs]
  · isplitl [Hi Ht Ho]
    · isplitl [Hi]; · iexists fi'; iexact Hi
      isplitl [Ht]; · iexists ft'; iexact Ht
      iexists fo'; iexact Ho
    iexact Hbufs
  isplitl [Hcells Hsems]
  · isplitl [Hcells] <;> iassumption
  iexists W'; isplitr
  · ipureintro; exact fun p hp => (hW' p hp).imp_right .inl
  iexact HW

end Tile

/-! ## The launch theorem's obligations -/

/-- The coordinates of tile `s` of core `c`. -/
def coordsV (c : Fin (grid0.bound 0)) (s : Fin (grid0.bound 1)) : grid0.Coords :=
  fun | 0 => c | 1 => s | ⟨_ + 2, h⟩ => absurd h (Nat.not_lt.2 (Nat.le_add_left _ _))

/-- What a vector subcore runs at the call. -/
theorem defs₀_vector [FloatOps F] (c : Fin τ.nSC) (s : Fin τ.nSub) :
    defs₀ (F := F) (.scVector c s) 0 () = SparseCore.onTile hcore0 hsub0 (fun c s => body (coordsV c s)) ⟨⟩ c s := rfl

/-- Every tile's task runs. -/
theorem tileObl [FloatOps F] (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (coordsV ⟨_, hc.1⟩ ⟨_, hc.2⟩) hF (shV (Fin.cast nCore_zero c) (Fin.cast nSub_zero i)) O W hO

/-- The launch's ghost element: the handshakes' rounds, and nothing of the kernel's own. -/
def u₀ : UU := (initOf (K (F := F)).hsCells (K (F := F)).hsToks, 1)

/-- It gives the handshakes theirs; the threads need nothing else. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_for {I : Type} (s : Finset I) : (bigSep s fun _ => iprop(emp)) = (iprop(emp) : sProp 𝕄) := bigSep_emp_const s
  unfold u₀ P; dsimp only
  simp only [none_for]
  iintro Hu
  ihave H := (ownU_pair _ _) $$ Hu
  icases H with ⟨HH, -⟩
  imodintro
  isplitl [HH]; · iexact HH
  isplitr <;> iempintro

/-! ## The program's main text -/

/-- The arrays as the host's operations name them. -/
abbrev iRef : DevRef τ sig := Proc.devRef .tc (main_arg0 : Ref sig .tc)
abbrev gRef : DevRef τ sig := Proc.devRef .tc (main_arg1 : Ref sig .tc)
abbrev tRef : DevRef τ sig := Proc.devRef .tc (main_v0 : Ref sig .tc)
abbrev oRef : DevRef τ sig := Proc.devRef .tc (main_v1 : Ref sig .tc)
abbrev rRef : DevRef τ sig := Proc.devRef .tc (main_v2 : Ref sig .tc)

/-- The table put in a row; the looked-up values put in a column. -/
abbrev opIn : HloOp τ sig (Elt F) := StableHlo.reshape main_arg1 main_v0 (rfl : (.f32 : EltTy) = .f32) shapeCasts_S4x1_S4
abbrev opOut : HloOp τ sig (Elt F) := StableHlo.reshape main_v1 main_v2 (rfl : (.f32 : EltTy) = .f32) shapeCasts_S100000_S100000x1

/-- The looked-up values in a column. -/
def column (d : Dev nD) (f : Buf (Elt F) (oLoc d)) : Buf (Elt F) (rLoc d) := shapeCast S100000x1 f shapeCasts_S100000_S100000x1

/-- The contents at launch, and those with `f` for the kernel's result. -/
def V0 (d : Dev nD) : Valuation τ sig (Elt F) := fun b => m (d, b)
def V1 (d : Dev nD) (f : Buf (Elt F) (oLoc d)) : Valuation τ sig (Elt F) := Function.update (V0 m d) oRef f

/-- Two arrays held. -/
theorem held_two (d : Dev nD) {a b : DevRef τ sig} (h : a ≠ b) (W : Valuation τ sig (Elt F)) :
    (held (T d) {a, b} W : sProp 𝕄) = iprop((((d, a) : Loc nD τ sig) ↦{fullShare} W a) ∗ ((d, b) : Loc nD τ sig) ↦{fullShare} W b) := by
  unfold held
  rw [SparseCore.bigSep_insert' (Finset.notMem_singleton.mpr h), bigSep_singleton]

/-- The five arrays of the program. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (gLoc d ↦{fullShare} W main_arg1) ∗ (tLoc d ↦{fullShare} W main_v0)
      ∗ (oLoc d ↦{fullShare} W main_v1) ∗ rLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide), SparseCore.bigSep_insert' (by decide), bigSep_singleton]

/-- The first operation leaves the table in its row. -/
theorem opIn_tab (d : Dev nD) : (opIn (F := F)).result (V0 m d) tRef = tab m d := StableHlo.reshape_result' _ _ _ _ _
/-- It leaves its operand. -/
theorem opIn_arg (d : Dev nD) : (opIn (F := F)).result (V0 m d) gRef = m (gLoc d) := StableHlo.reshape_result_ne' _ _ _ _ _ (by decide)
/-- The last operation leaves the column. -/
theorem opOut_column (d : Dev nD) (f : Buf (Elt F) (oLoc d)) : (opOut (F := F)).result (V1 m d f) rRef = column d f :=
  (StableHlo.reshape_result' _ _ _ _ _).trans (by rw [V1, Function.update_self]; rfl)

/-- What main leaves: the arguments as they were, the result the column of values that the tiles looked up. -/
abbrev FIN (d : Dev nD) : sProp 𝕄 :=
  iprop((iLoc d ↦{fullShare} m (iLoc d)) ∗ (gLoc d ↦{fullShare} m (gLoc d)) ∗ ∃ f, ⌜∀ c i, TileDone m d c i f⌝ ∗ rLoc d ↦{fullShare} column d f)

/-- Main on a device's TensorCore: the table put in a row, the call, the result put in a column. -/
theorem hmain [FloatOps F] (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Hg, Ht, Ho, Hr⟩, Hts, -⟩, -⟩
  iapply (wp_hlo_within 𝒱 (SparseCore.T d) none Set.univ (op := opIn) (S := {gRef, tRef}) (Finset.Subset.refl _) (V := V0 m d)) $$ [Hb Hg Ht]
  · isplitl [Hb]; · iexact Hb
    rw [held_two d (by decide)]
    isplitl [Hg]; · iexact Hg
    iexact Ht
  iintro ⟨Hb, Hh⟩
  ihave Hh := (Entails.of_eq (held_two (F := F) d (a := gRef) (b := tRef) (by decide) _)) $$ Hh
  rw [opIn_tab, opIn_arg]
  icases Hh with ⟨Hg, Ht⟩
  rw [wp_ret]; imodintro
  iapply ((K (F := F)).wp_run (D (F := F)) 𝒱 (EH := EH) (P := P m) κ d 0) $$ [Hst Hi Hg Ht Ho Hr Hb Hts]
  isplitr; · iexact Hctx
  isplitl [Hst]; · iexact Hst
  isplitl [Hi Ht Ho]
  · iapply (call_takes m d)
    unfold Piece
    isplitl [Hi]; · iexact Hi
    isplitl [Ht]; · iexact Ht
    iexists m (oLoc d); isplitr
    · ipureintro; trivial
    iexact Ho
  iintro ⟨Hst, Hdn⟩
  ihave Hdn := (call_leaves m d) $$ Hdn
  unfold Piece
  icases Hdn with ⟨Hi, Ht, %f, %hf, Ho⟩
  iapply (wp_hlo_within 𝒱 (SparseCore.T d) none Set.univ (op := opOut) (S := {oRef, rRef}) (Finset.Subset.refl _) (V := V1 m d f)) $$ [Hb Ho Hr]
  · isplitl [Hb]; · iexact Hb
    rw [held_two d (by decide)]
    rw [show V1 m d f oRef = f from Function.update_self _ _ _, show V1 m d f rRef = m (rLoc d) from Function.update_of_ne (show rRef ≠ oRef by decide) _ _]
    isplitl [Ho]; · iexact Ho
    iexact Hr
  iintro ⟨Hb, Hh⟩
  ihave Hh := (Entails.of_eq (held_two (F := F) d (a := oRef) (b := rRef) (by decide) _)) $$ Hh
  rw [opOut_column]
  icases Hh with ⟨-, Hr⟩
  rw [wp_ret]; imodintro; imodintro
  isplitl [Hst]; · iexact Hst
  isplitr [Hb Hts]
  · isplitl [Hi]; · iexact Hi
    isplitl [Hg]; · iexact Hg
    iexists f; isplitr
    · ipureintro; exact hf
    iexact Hr
  isplitl [Hb] <;> iassumption

/-! ## The program's run -/

/-- What a finished device's memory is known to hold. -/
def fq (d : Dev nD) (s' : Phys nD τ sig (Elt F)) : Prop :=
  s'.mem.mem (iLoc d) = m (iLoc d) ∧ s'.mem.mem (gLoc d) = m (gLoc d) ∧ ∃ f, (∀ c i, TileDone m d c i f) ∧ s'.mem.mem (rLoc d) = column d f

/-- It does, by what main leaves. -/
theorem hfin (d : Dev nD) (s' : Phys nD τ sig (Elt F)) : iprop(FIN m d ∗ SI s') ⊢ (⌜fq m d s'⌝ : sProp 𝕄) := by
  iintro ⟨⟨Hi, Hg, %f, %hf, Hr⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s') (ℓ := gLoc d) (I := Finset.univ) (q := fullShare) (f := m (gLoc d)))) $$ [HSI Hg]
  · isplitl [HSI] <;> iassumption
  icases H with ⟨%h2, HSI, -⟩
  ihave H := (SI_pointsTo_agree (st := s') (ℓ := rLoc d) (I := Finset.univ) (q := fullShare) (f := column d f)) $$ [HSI Hr]
  · isplitl [HSI] <;> iassumption
  icases H with %h3
  ipureintro
  exact ⟨funext fun i => h1 i (Finset.mem_univ i), funext fun i => h2 i (Finset.mem_univ i), f, hf, funext fun i => h3 i (Finset.mem_univ i)⟩

/-- What the program's run ends with: on every device that, and every semaphore at zero. -/
def QC : PUnit × MemSt nD τ sig (Elt F) → Prop := fun r =>
  (∀ d : Dev nD, r.2.mem (iLoc d) = m (iLoc d) ∧ r.2.mem (gLoc d) = m (gLoc d) ∧ ∃ f, (∀ c i, TileDone m d c i f) ∧ r.2.mem (rLoc d) = column d f) ∧ r.2.sem = fun _ => 0

/-- The program's run, from any launch memory and over any floats. -/
theorem run_main [FloatOps F] [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup

end
-- ==== Proof.Value.lean ====
/-
  The result's value. Where every index names a row of the table, both programs end with `rows`: at place `j` the table's row
  number `x j`. For the kernel this is read off what its tiles leave, for the reference off the term that its operations compose:
  an index in the range is not negative, so it is not wrapped; the mask of the indices in the range holds everywhere; the gather
  reads the row that the index names.
-/
module

public import proofs.«01_k».proof.Proof.Launch
public import proofs.«01_k».proof.Proof.Gen.Pre_in_range
public import proofs.«01_k».proof.Proof.Gen.ReferenceIdeal.Run
public import Idealize.ShloMosaic.Lib.ReduceAll
public import Idealize.ShloMosaic.Lib.Routing.Ops
public import Idealize.ShloMosaic.Lib.ValueIdxCore
public import Idealize.ShloMosaic.Lib.Pipeline.Value

@[expose] public section

noncomputable section

namespace Cert.Proof.Lookup

open Idealize.ShloMosaic Idealize.ShloMosaic.ValueIdx Idealize.ShloMosaic.Routing Idealize.SL.Sem

variable {F : FTy → Type}

/-! ## The range -/

/-- Every index names a row of the table. -/
abbrev InRange (x : IVec Cert.KernelIdeal.S100000 32) : Prop := ∀ j, (x j).toNat < 4

/-- A word that is at least 0 and below 4 as a signed number is below 4 as it stands. -/
theorem toNat_lt_four {v : BitVec 32} (h0 : IntOp.cmpi .sge v 0#32 = 1#1) (h4 : IntOp.cmpi .slt v 4#32 = 1#1) : v.toNat < 4 := by
  rw [IntOp.cmpi_sge] at h0
  rw [IntOp.cmpi_slt] at h4
  have e0 : (0#32 : BitVec 32).toInt = 0 := by decide
  have e4 : (4#32 : BitVec 32).toInt = 4 := by decide
  rw [e0] at h0; rw [e4] at h4
  rw [BitVec.toInt_eq_toNat_cond] at h0 h4
  have := v.isLt
  split at h0 <;> omega

/-- The precondition says that every index is in the range. -/
theorem inRange_of_pre [FloatOps F] (x : IVec Cert.Pre_in_range.S100000 32) (t : FVec F Cert.Pre_in_range.S4x1 .f32)
    (h : Cert.Pre_in_range.fn (F := F) x t = fun _ => 1#1) : InRange x := by
  intro j
  have hs : Subsingleton Cert.Pre_in_range.S_.Idx := ⟨fun a b => funext fun i => i.elim0⟩
  have hj := Host.reduce_andi_all _ _ _ _ (fun i => i.elim0) (congrFun h fun i => i.elim0) j
  have hb := IntOp.andi_eq_one.1 hj
  exact toNat_lt_four hb.1 hb.2

/-! ## The result -/

/-- The table's rows that the indices name. -/
def rows (x : IVec Cert.KernelIdeal.S100000 32) (t : FVec F Cert.KernelIdeal.S4x1 .f32) (h : InRange x) : FVec F Cert.KernelIdeal.S100000x1 .f32 :=
  fun k => t (ix2 ⟨(x (ix1 (k 0))).toNat, h _⟩ (k 1))

/-- They depend on the indices and the table alone. -/
theorem rows_congr {x x' : IVec Cert.KernelIdeal.S100000 32} {t t' : FVec F Cert.KernelIdeal.S4x1 .f32} (hx : x = x') (ht : t = t') (h : InRange x) (h' : InRange x') :
    rows x t h = rows x' t' h' := by
  subst hx; subst ht; rfl

/-! ## The kernel's result -/

section Kernel

open Cert.KernelIdeal Cert.KernelIdeal.Gen

variable (m : (ℓ : Loc nD τ sig) → Buf (Elt F) ℓ) (d : Dev nD)

/-- The table's row number `l`, read in the row that the host puts the table in. -/
theorem tab_apply (l : Fin 4) (z : Fin 1) : tab m d (ix1 l) = m (gLoc d) (ix2 l z) := by
  refine shapeCast_apply _ _ (ix1 l) (ix2 l z) ?_
  rw [Shape.rowMajor_val_two, Shape.rowMajor_val_one]
  have : z.val = 0 := by omega
  simp [this]

/-- The column, read at a place. -/
theorem column_apply (f : Buf (Elt F) (oLoc d)) (j : Fin 100000) (z : Fin 1) : column d f (ix2 j z) = f (ix1 j) := by
  refine shapeCast_apply _ _ (ix2 j z) (ix1 j) ?_
  rw [Shape.rowMajor_val_two, Shape.rowMajor_val_one]
  have : z.val = 0 := by omega
  simp [this]

/-- Every place of the result lies in the stretch of some tile. -/
theorem exists_tile (j : Fin 100000) : ∃ (c : Fin 2) (i : Fin 16), (ix1 j : S100000.Idx) ∈ stretch (2 * i.val + c.val) := by
  refine ⟨⟨j.val / 3128 % 2, by omega⟩, ⟨j.val / 3128 / 2, by omega⟩, mem_stretch.2 ?_⟩
  show j.val / 3128 = 2 * (j.val / 3128 / 2) + j.val / 3128 % 2
  omega

/-- What the tiles leave, put in a column, is the rows that the indices name. -/
theorem column_eq (h : InRange (m (iLoc d))) (f : Buf (Elt F) (oLoc d)) (hf : ∀ c i, TileDone m d c i f) :
    column d f = rows (m (iLoc d)) (m (gLoc d)) h := by
  funext k
  obtain ⟨j, z, rfl⟩ : ∃ (j : Fin 100000) (z : Fin 1), k = ix2 j z := ⟨k 0, k 1, eq_ix2 k⟩
  obtain ⟨c, i, hj⟩ := exists_tile j
  exact (column_apply d f j z).trans ((hf c i _ hj (ix1 ⟨_, h (ix1 j)⟩) rfl).trans (tab_apply m d _ z))

end Kernel

/-! ## The reference's result -/

section Reference

open Cert.ReferenceIdeal Cert.ReferenceIdeal.Gen

/-- An index in the range is not wrapped: what is chosen for a negative one is not chosen. -/
theorem unwrapped (x y : IVec S100000 32) (h : InRange x) (b : S_.BroadcastsInDim S100000 (![] : Fin 0 → Fin S100000.rank)) :
    select (cmpi .slt x (broadcastInDim S100000 ![] b (constantI S_ 32 0#32))) y x = x := by
  funext j
  refine if_neg fun e => ?_
  have e : IntOp.cmpi .slt (x j) 0#32 = 1#1 := e
  rw [IntOp.cmpi_slt, BitVec.toInt_eq_toNat_cond, show (0#32 : BitVec 32).toInt = 0 by decide] at e
  have := h j
  split at e <;> omega

/-- A word below 4 passes the reference's two tests. -/
theorem tests_pass {v : BitVec 32} (h : v.toNat < 4) : IntOp.andi (IntOp.cmpi .sge v 0#32) (IntOp.cmpi .sle v 3#32) = 1#1 := by
  rw [IntOp.andi_eq_one, IntOp.cmpi_sge, IntOp.cmpi_sle, show (0#32 : BitVec 32).toInt = 0 by decide,
    show (3#32 : BitVec 32).toInt = 3 by decide, BitVec.toInt_eq_toNat_cond]
  split <;> omega

/-- What holds of every element holds of every element of a broadcast. -/
theorem broadcast_all {s t : Shape} {α : Type} {p : α → Prop} (dims : Fin s.rank → Fin t.rank) (b : s.BroadcastsInDim t dims) (x : s.Idx → α)
    (h : ∀ j, p (x j)) (k : t.Idx) : p (broadcastInDim t dims b x k) := h _

/-- The mask of the indices that pass both tests holds everywhere. -/
theorem mask_one (x : IVec S100000 32) (h : InRange x) (k : S100000x1.Idx) :
    broadcastInDim S100000x1 ![0] bcast_S100000_S100000x1_0 (Host.reduce IntOp.andi
      (andi (cmpi .sge (broadcastInDim S100000x1 ![0] bcast_S100000_S100000x1_0 x) (broadcastInDim S100000x1 ![] bcast_S_S100000x1 (constantI S_ 32 0#32)))
        (cmpi .sle (broadcastInDim S100000x1 ![0] bcast_S100000_S100000x1_0 x)
          (broadcastInDim S100000x1 ![0, 1] bcast_S1x1_S100000x1_0_1 (broadcastInDim S1x1 ![1] bcast_S1_S1x1_1 (constantI S1 32 3#32)))))
      (constantI S_ 1 1#1) reducesTo_S100000x1_S100000_d1 h_S_) k = 1#1 := by
  refine broadcast_all (p := (· = 1#1)) _ _ _ (fun j => Host.reduce_andi_one _ _ _ _ j rfl fun i => ?_) k
  exact broadcast_all (p := fun v => IntOp.andi (IntOp.cmpi .sge v 0#32) (IntOp.cmpi .sle v 3#32) = 1#1) _ bcast_S100000_S100000x1_0 x (fun j => tests_pass (h j)) i

/-- A choice, where its mask holds. -/
theorem selected {s : Shape} {α : Type} (p : IVec s 1) (a b : s.Idx → α) (k : s.Idx) (h : p k = 1#1) : select p a b k = a k := if_pos h

/-- The reference's gather, at an index in the range. -/
theorem ref_gather (x : IVec S100000 32) (t : FVec F S4x1 .f32) (h : InRange x) (j : Fin 100000) (z : Fin 1) :
    Host.gather gather_S4x1_S100000x1_S100000x1_1_0_n_n_0_1_11 t (broadcastInDim S100000x1 ![0] bcast_S100000_S100000x1_0 x) (ix2 j z)
      = t (ix2 ⟨(x (ix1 j)).toNat, h _⟩ z) := by
  refine gather_row (nb := 4) (B := 1) (n := 100000) _ rfl rfl rfl rfl rfl t _ j z ⟨_, h (ix1 j)⟩ ?_ (by decide)
  have e : broadcastInDim S100000x1 ![0] bcast_S100000_S100000x1_0 x (ix2 j (0 : Fin 1)) = x (ix1 j) := congrArg x (funext fun a => match a with | ⟨0, _⟩ => rfl)
  rw [e]
  simp

variable [FloatOps F] (m : (ℓ : Loc nD τ sig) → Buf (Elt F) ℓ) (ρ : Dev nD → PrngReg)

/-- The indices and the table that the reference is given. -/
abbrev refIdx (c : Dev nD) : IVec S100000 32 := m ((c.tc : Thread nD τ).loc main_arg0)
abbrev refTab (c : Dev nD) : FVec F S4x1 .f32 := m ((c.tc : Thread nD τ).loc main_arg1)

/-- The reference's run, where every index is in the range: the result is the rows that the indices name. -/
theorem run_reference (h : ∀ c, InRange (refIdx m c)) :
    θ_run (defs (F := F)) (onTc (τ := τ) (main (F := F))) ⟨m, fun _ => 0, ρ⟩ fun r => ∀ c : Dev nD,
      r.2.mem ((c.tc : Thread nD τ).loc main_v0) = rows (refIdx m c) (refTab m c) (h c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r hr c => ⟨(hr c).1.trans ?_, (hr c).2⟩) (Value.run m ρ)
  rw [unwrapped (m ((c.tc : Thread nD τ).loc main_arg0)) _ (h c)]
  funext k
  obtain ⟨j, z, rfl⟩ : ∃ (j : Fin 100000) (z : Fin 1), k = ix2 j z := ⟨k 0, k 1, eq_ix2 k⟩
  exact (selected _ _ _ _ (mask_one (refIdx m c) (h c) _)).trans (ref_gather (refIdx m c) (refTab m c) (h c) j z)

end Reference

end Cert.Proof.Lookup

end
-- ==== Proof.lean ====
/-
  The proof of `Cert.Claim` (proofs.«01_k».proof.Defs): the frames of the kernel, of its ideal reading and of the reference, and that the
  ideal reading of the kernel and the reference end with equal results where every index names a row of the table.
  The kernel's run is Proof/Launch.lean's `run_main`, once for all floats; the result's value is in Proof/Value.lean.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Value
public import Idealize.ShloMosaic.Adequacy
public import Idealize.ShloMosaic.Init

@[expose] public section

noncomputable section

namespace Cert.Proof

open Idealize.ShloMosaic Idealize.SL.Sem

/-- `Cert.quiescent_Kernel`: the kernel and its ideal reading have the same text, so its run is the ideal reading's at the machine's own floats. -/
theorem frame_kernel : Cert.quiescent_Kernel := fun m ρ _ =>
  (θ_run Cert.KernelIdeal.defs _ _).mono (fun _ h => ⟨fun c => ⟨(h.1 c).1, (h.1 c).2.1⟩, h.2⟩) (Lookup.run_main (F := Bits) m ρ)

/-- The frame of the kernel's ideal reading, from any memory. -/
theorem frame_ideal : Cert.quiescent_KernelIdeal := fun m ρ _ =>
  (θ_run Cert.KernelIdeal.defs _ _).mono (fun _ h => ⟨fun c => ⟨(h.1 c).1, (h.1 c).2.1⟩, h.2⟩) (Lookup.run_main (F := Ideal) m ρ)

/-- The frame of the reference, from any memory; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- `Cert.algebraic_KernelIdeal_ReferenceIdeal_pre_in_range`: both programs end with the table's rows that the indices name. -/
theorem value : Cert.algebraic_KernelIdeal_ReferenceIdeal_pre_in_range := by
  intro m ρ m' ρ' hpre hagree
  have hx (c : Dev Cert.KernelIdeal.nD) : Lookup.InRange (m (Lookup.iLoc c)) := Lookup.inRange_of_pre (F := Ideal) _ _ (hpre c)
  have hx' (c : Dev Cert.ReferenceIdeal.nD) : Lookup.InRange (Lookup.refIdx m' c) := fun j => (congrArg (fun x : IVec Cert.KernelIdeal.S100000 32 => (x j).toNat) (hagree c).1).trans_lt (hx c j)
  refine ⟨fun c => Lookup.rows (F := Ideal) (m (Lookup.iLoc c)) (m (Lookup.gLoc c)) (hx c), ?_, ?_⟩
  · refine (θ_run Cert.KernelIdeal.defs _ _).mono (fun _ h c => ?_) (Lookup.run_main (F := Ideal) m ρ)
    obtain ⟨hi, hg, f, hf, hr⟩ := h.1 c
    exact ⟨hr.trans (Lookup.column_eq m c (hx c) f hf), hi, hg⟩
  · refine (θ_run Cert.ReferenceIdeal.defs _ _).mono (fun _ h c => ⟨(h c).1.trans ?_, (h c).2⟩) (Lookup.run_reference m' ρ' hx')
    exact Lookup.rows_congr (hagree c).1 (hagree c).2 (hx' c) (hx c)

/-- The certificate's claim. -/
theorem claim : Cert.Claim := ⟨Cert.Kernel.Gen.facts, Cert.KernelIdeal.Gen.facts, Cert.ReferenceIdeal.Gen.facts, Cert.Pre_in_range.Gen.facts,
  frame_kernel, frame_ideal, fun m ρ _ => frame_ideal m ρ trivial, frame_reference, fun m ρ _ => frame_reference m ρ trivial, trivial, value⟩

end Cert.Proof

end
